-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x128 : Shape := ⟨2, ![16384, 128]⟩
abbrev S128x128x128 : Shape := ⟨3, ![128, 128, 128]⟩
abbrev S128x1x128 : Shape := ⟨3, ![128, 1, 128]⟩
abbrev S_ : Shape := ⟨0, ![]⟩

abbrev nBuf : Table → Nat
  | .hbm => 3
  | _ => 0

abbrev bufTy : (tb : Table) → Fin (nBuf tb) → BufTy
  | .hbm, ⟨0, _⟩ => ⟨S16384x128, .f32⟩
  | .hbm, ⟨1, _⟩ => ⟨S128x128x128, .f32⟩
  | .hbm, ⟨2, _⟩ => ⟨S128x1x128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v0_scs : Ref sig .scScalar := ⟨.hbm, 1, rfl⟩
abbrev main_v1_scs : Ref sig .scScalar := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16384x128 : Shape := ⟨2, ![16384, 128]⟩
abbrev S128x1 : Shape := ⟨2, ![128, 1]⟩
abbrev S128 : Shape := ⟨1, ![128]⟩
abbrev S_ : Shape := ⟨0, ![]⟩
abbrev S1 : Shape := ⟨1, ![1]⟩
abbrev S1x1 : Shape := ⟨2, ![1, 1]⟩
abbrev S128x128 : Shape := ⟨2, ![128, 128]⟩
abbrev S128x1x128 : Shape := ⟨3, ![128, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x1, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S128x128, .f32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S128x1x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Rows.lean ====
/-
  The rows that the kernel is to gather, and the kernel's way to them. `everyRow x` is the array `[128, 1, 128]` whose row `i` is
  row `128 * i` of the table `x : [16384, 128]`. The kernel regards the table as 128 slabs of 128 rows and copies the first row
  of every slab; `first_of_slabs` says that those are the same rows.
-/
module

public import proofs.«01_k».proof.Proof.Gen.KernelIdeal
public import Idealize.ShloMosaic.Lib.Pipeline.Value
public import Idealize.ShloMosaic.Lib.ValueIdxCore

@[expose] public section

noncomputable section

namespace Cert.Proof

open Cert.KernelIdeal Cert.KernelIdeal.Gen
open Idealize.ShloMosaic Idealize.ShloMosaic.Pipeline Idealize.ShloMosaic.ValueIdx

variable {α : Type}

/-- Row `128 * r` of the table, as an index of its first axis. -/
def pick (r : Fin 128) : Fin 16384 := ⟨128 * r.val, by have := r.isLt; omega⟩

/-- Row `i` of the result is row `128 * i` of `x`. -/
def everyRow (x : S16384x128.Idx → α) : S128x1x128.Idx → α := fun i => x (ix2 (pick (i 0)) (i 2))

/-- The table as slabs, read at row `0` of slab `r`: row `128 * r` of the table. -/
theorem slab_row (x : S16384x128.Idx → α) (r c : Fin 128) :
    shapeCast S128x128x128 x shapeCasts_S16384x128_S128x128x128 (ix3 r (0 : Fin 128) c) = x (ix2 (pick r) c) := by
  refine shapeCast_apply x _ _ _ ?_
  rw [Shape.rowMajor_val_two, Shape.rowMajor_val_three]
  show 128 * r.val * 128 + c.val = (r.val * 128 + 0) * 128 + c.val
  omega

/-- The block that the kernel's copy reads: the first row of each slab. -/
abbrev firstRows : Rect S128x128x128 := Rect.unit (s := S128x128x128) ![0, 0, 0] S128x1x128.size inb_S128x128x128_S128x1x128_0_0_0

/-- The first rows of the slabs are the rows that the kernel is to gather. -/
theorem first_of_slabs (x : S16384x128.Idx → α) (i : S128x1x128.Idx) :
    shapeCast S128x128x128 x shapeCasts_S16384x128_S128x128x128 (firstRows.emb i) = everyRow x i := by
  have hi : firstRows.emb i = ix3 (i 0) (0 : Fin 128) (i 2) := by
    funext a
    refine Fin.ext ?_
    have h1 : (i 1).val = 0 := Nat.lt_one_iff.mp (i 1).isLt
    match a with
    | ⟨0, _⟩ => show 0 + 1 * (i 0).val = (i 0).val; omega
    | ⟨1, _⟩ => show 0 + 1 * (i 1).val = 0; omega
    | ⟨2, _⟩ => show 0 + 1 * (i 2).val = (i 2).val; omega
  rw [hi]
  exact slab_row x (i 0) (i 2)

end Cert.Proof

end
-- ==== Proof.Run.lean ====
/-
  The run of the idealized kernel's program, at any float values. The program regards the table as 128 slabs of 128 rows, and
  its one call has SparseCore 0's sequencer copy the first row of every slab into the result and wait for that copy. `run_main`
  says that every weakly fair execution ends, that the result is then `everyRow` of the table, that the table is as it was, and
  that every semaphore counter is zero.

  The call hands the sequencer the slabs at their known contents and the result at whatever it holds; it takes back the slabs
  unchanged and the result at `everyRow`. The body is the symbolic executor's.
-/
module

public import proofs.«01_k».proof.Proof.Rows
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and none of them is scoped; no scoped buffer of a SparseCore is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's ghost state: the handshakes' rounds beside the transfers' counters. -/
abbrev UH : Type := URounds (GSem nD τ sig) ℕ
abbrev UU : Type := UH × Counters

local notation "𝕄" => MT nD τ sig (HIx 1) (Elt F) ℕ UU ℕ

/-- Where the handshakes' rounds lie in it. -/
abbrev EH : Emb UH (MT nD τ sig (HIx 1) (Elt F) ℕ UU ℕ) := embL

variable (m : (ℓ : Loc nD τ sig) → Buf (Elt F) ℓ) (ρ : Dev nD → PrngReg)

/-! ## The three arrays -/

abbrev tableLoc (d : Dev nD) : Loc nD τ sig := (SparseCore.T d).loc main_arg0
abbrev slabLoc (d : Dev nD) : Loc nD τ sig := (SparseCore.T d).loc main_v0
abbrev outLoc (d : Dev nD) : Loc nD τ sig := (SparseCore.T d).loc main_v1

-- the two memrefs as the body table passes them
abbrev slabRef : Memref sig .scScalar .hbm S128x128x128 .f32 := Memref.whole main_v0_scs
abbrev outRef : Memref sig .scScalar .hbm S128x1x128 .f32 := Memref.whole main_v1_scs

/-- The table's contents at launch, the same as slabs, and what the result is to hold. -/
abbrev table (d : Dev nD) : S16384x128.Idx → F .f32 := m (tableLoc d)
abbrev slabs (d : Dev nD) : S128x128x128.Idx → F .f32 := shapeCast S128x128x128 (table m d) shapeCasts_S16384x128_S128x128x128
abbrev wanted (d : Dev nD) : S128x1x128.Idx → F .f32 := everyRow (table m d)

abbrev slabPts (d : Dev nD) : sProp 𝕄 := slabLoc d ↦{fullShare} (slabs m d : Buf (Elt F) (slabLoc d))
abbrev outPts (d : Dev nD) (f : Buf (Elt F) (outLoc d)) : sProp 𝕄 := outLoc d ↦{fullShare} f

variable [FloatOps F]

/-- The call's payloads: the slabs and the result go out, and come back with the result at `wanted`. -/
def P : (K (F := F)).Pay (nD := nD) (Val := Elt F) (Name := ℕ) (U := UU) where
  st := fun _ d _ => iprop(slabPts m d ∗ ∃ f, outPts d f)
  dn := fun _ d _ => iprop(slabPts m d ∗ outPts d (wanted m d))
  go := fun _ _ _ _ => iprop(emp)
  td := fun _ _ _ _ => iprop(emp)
  x := fun _ _ => iprop(emp)

/-- The payloads may be stored in the launch's invariants. -/
instance P_storable : (P (F := F) m).IsStorable where
  st _ d c := by unfold P; infer_instance
  dn _ d c := by unfold P; infer_instance
  go _ _ _ _ := by unfold P; infer_instance
  td _ _ _ _ := by unfold P; infer_instance

/-! ## The body -/

section Body

variable (d : Dev nD) (c : Fin (grid0.bound 0))

/-- The grid point at which core `c` runs the body. -/
def point : grid0.Coords := fun | 0 => c | ⟨_ + 1, h⟩ => absurd h (Nat.not_lt.2 (Nat.le_add_left _ _))

/-- The sequencer that runs the body, and the counter its copy pays. -/
abbrev seqr : Thread nD τ := S d (c.castLE hcore0)
abbrev paid : GSem nD τ sig := (seqr d c, .dma cc0_scoped0.sem)

omit [FloatOps F] in
/-- The counter that the copy pays is one of the sequencer's own. -/
theorem own_paid : (ownSems0 (seqr d c) : sProp 𝕄)
    = iprop(semVal (paid d c) 0 ∗ bigSep ((ownCells (seqr d c)).erase (paid d c)) fun g => semVal g 0) := by
  unfold SparseCore.Cfg.ownSems0
  exact SparseCore.bigSep_erase' ((mem_ownCells (g := paid d c)).mpr ⟨rfl, by
    show (SemLoc.dma cc0_scoped0.sem : SemLoc sig).isScoped .scScalar = true; decide⟩)

omit [FloatOps F] in
/-- The slabs as the sequencer's memref addresses them. -/
theorem slab_seen (f : Buf (Elt F) (slabLoc d)) : (slabRef.view.loc (seqr d c) ↦{fullShare} f : sProp 𝕄) = slabLoc d ↦{fullShare} f := by
  simp only [Memref.view_whole, View.set_whole]

omit [FloatOps F] in
/-- The result as the sequencer's memref addresses it. -/
theorem out_seen (f : Buf (Elt F) (outLoc d)) : (outRef.view.loc (seqr d c) ↦{fullShare} f : sProp 𝕄) = outLoc d ↦{fullShare} f := by
  simp only [Memref.view_whole, View.set_whole]

omit [FloatOps F] in
/-- The copy lands the rows that the kernel is to gather, over whatever the result held. -/
theorem landed (f : Buf (Elt F) (outLoc d)) :
    outRef.view.write (Elt F) f ((slabRef.slice firstRows (fun _ => rfl)).view.read (Elt F) (slabs m d)) Finset.univ = wanted m d := by
  refine (View.write_whole_univ _ _ _).trans ?_
  funext i
  exact first_of_slabs (table m d) i

/-- The body on its sequencer: one copy, one wait; the result is left at `wanted`. -/
theorem body (O : CellTallies nD τ sig (HIx 1)) (W : Waits sig (HIx 1)) (hO : ∀ g, O g none = 0) :
    iprop(levAts (K (F := F)).L (K (F := F)).lev ∗ emp ∗ (slabPts m d ∗ ∃ f, outPts d f)
        ∗ scopedBufs (seqr d c) ∗ scopedSems0 (seqr d c) ∗ owes (seqr d c) O W)
      ⊢ wp frame (wpE (defs₀ (F := F)) 𝒱₀ (seqr d c) none) Set.univ
          (cc0__gather_rows (point c) slabRef (Memref.isWhole_whole _) outRef (Memref.isWhole_whole _) cc0_scoped0)
          fun _ => iprop((slabPts m d ∗ outPts d (wanted m d)) ∗ scopedBufs (seqr d c) ∗ scopedSems0 (seqr d c)
            ∗ ∃ W', ⌜∀ p ∈ W', p ∈ W ∨ p.2 = none ∨ p.2 = some (0 : Fin 1)⌝ ∗ owes (seqr d c) O W') := by
  simp only [cc0__gather_rows_eq_skeleton]; unfold cc0__gather_rows_skel
  iintro ⟨#Hlv, -, ⟨Hslab, %f, Hout⟩, Hsb, Hss, HO⟩
  ihave Hss' := (SparseCore.Cfg.scopedSems0_S_elim (Val := Elt F) d (c.castLE hcore0)) $$ Hss
  icases Hss' with ⟨Hown, Hsubs⟩
  ihave Hown' := (Entails.of_eq (own_paid (F := F) d c)) $$ Hown
  icases Hown' with ⟨Hsem, Hrest⟩
  ihave Hmw := ((K (F := F)).mayWaits_none (thr := seqr d c) hO) $$ Hlv
  ihave Hslab' := (Entails.of_eq (slab_seen (F := F) d c _).symm) $$ Hslab
  ihave Hout' := (Entails.of_eq (out_seen (F := F) d c _).symm) $$ Hout
  sl_exec
  sl_step
  isplitl [Hslab' Hout']
  · isplitl [Hslab']
    · iapply (Entails.of_eq (slab_seen (F := F) d c _)); iexact Hslab'
    · iapply (Entails.of_eq ((congrArg (outPts d) (landed m d f)).symm.trans (out_seen (F := F) d c _).symm).symm); iexact Hout'
  isplitl [Hsb]; · iexact Hsb
  isplitl [Hsem Hrest Hsubs]
  · iapply (SparseCore.Cfg.scopedSems0_S_intro (Val := Elt F) d _)
    isplitl [Hsem Hrest]
    · iapply (Entails.of_eq (own_paid (F := F) d c).symm)
      isplitl [Hsem]; · iexact Hsem
      iexact Hrest
    · iexact Hsubs
  iexists _; isplitr
  rotate_left
  · iexact HO
  · ipureintro
    intro p hp
    rcases Finset.mem_insert.mp hp with rfl | hp
    · exact .inr (.inl rfl)
    · exact .inl hp

end Body

/-! ## What the launch asks of the call -/

/-- The body table's entry for the call is the kernel at its grid point. -/
theorem entry (c : Fin τ.nSC) : defs₀ (F := F) (.scScalar c) 0 ()
    = SparseCore.onCore hcore0 (fun c => cc0__gather_rows (point c) slabRef (Memref.isWhole_whole _) outRef (Memref.isWhole_whole _) cc0_scoped0) ⟨⟩ c := rfl

/-- The sequencer of the call's one core runs `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [entry]; simp only [SparseCore.onCore, hc, ↓reduceDIte]
  exact body m d ⟨c.val, hc⟩ O W hO

/-- The launch element: the handshakes' rounds, and nothing else. -/
def u₀ : UU := (initOf (K (F := F)).hsCells (K (F := F)).hsToks, 1)

/-- It gives the handshakes their rounds; the kernel asks for nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  rw [hx, show (bigSep Finset.univ fun _ : Dev nD => iprop(emp)) = (iprop(emp) : sProp 𝕄) from bigSep_emp_const _]
  unfold u₀
  iintro Hu
  ihave H := (ownU_pair _ _) $$ Hu
  icases H with ⟨HH, -⟩
  imodintro
  isplitl [HH]; · iexact HH
  isplitr <;> iempintro

/-! ## @main -/

abbrev bTable : DevRef τ sig := Proc.devRef .tc (main_arg0 : Ref sig .tc)
abbrev bSlab : DevRef τ sig := Proc.devRef .tc (main_v0 : Ref sig .tc)
abbrev bOut : DevRef τ sig := Proc.devRef .tc (main_v1 : Ref sig .tc)

/-- The TensorCore's arrays. -/
abbrev arrays : Finset (DevRef τ sig) := {bTable, bSlab, bOut}

/-- The program's one operation before the call. -/
abbrev regard : HloOp τ sig (Elt F) := StableHlo.reshape main_arg0 main_v0 rfl shapeCasts_S16384x128_S128x128x128

/-- What the arrays hold at launch. -/
def launch (d : Dev nD) : Valuation τ sig (Elt F) := fun b => m (d, b)

omit [FloatOps F] in
/-- Holding the three arrays is holding each of them. -/
theorem held_arrays (d : Dev nD) (v : Valuation τ sig (Elt F)) :
    (held (SparseCore.T d) arrays v : sProp 𝕄) = iprop((tableLoc d ↦{fullShare} v bTable) ∗ (slabLoc d ↦{fullShare} v bSlab) ∗ outPts d (v bOut)) := by
  unfold held arrays
  rw [SparseCore.bigSep_insert' (by decide), SparseCore.bigSep_insert' (by decide), bigSep_singleton]

omit [FloatOps F] in
/-- The launch's unscoped buffers of a TensorCore are those arrays. -/
theorem launch_held (d : Dev nD) : (unscopedBufs d (fun b => m ((SparseCore.T d).loc b)) : sProp 𝕄) = held (SparseCore.T d) arrays (launch m d) := by
  rw [held_arrays]
  unfold unscopedBufs
  rw [show (Finset.univ.filter fun b : Ref sig .tc => ¬ b.isScoped) = {main_arg0, main_v0, main_v1} by decide,
    SparseCore.bigSep_insert' (by decide), SparseCore.bigSep_insert' (by decide), bigSep_singleton]
  rfl

omit [FloatOps F] in
/-- After the reshape: the table as it was, the slabs at the table's contents, the result at whatever it holds. -/
theorem regarded (d : Dev nD) : (held (SparseCore.T d) arrays ((regard (F := F)).result (launch m d)) : sProp 𝕄)
    = iprop((tableLoc d ↦{fullShare} m (tableLoc d)) ∗ slabPts m d ∗ outPts d (m (outLoc d))) := by
  rw [held_arrays,
    (regard (F := F)).result_of_not_mem (launch m d) (b := bTable) (show bTable ∉ ({bSlab} : Finset (DevRef τ sig)) by decide),
    (regard (F := F)).result_of_not_mem (launch m d) (b := bOut) (show bOut ∉ ({bSlab} : Finset (DevRef τ sig)) by decide),
    show (regard (F := F)).result (launch m d) bSlab = slabs m d from StableHlo.reshape_result main_arg0 main_v0 rfl _ _ _ (launch m d)]
  rfl

/-- The reshape touches no other array. -/
theorem regard_bufs : (regard (F := F)).bufs ⊆ arrays := show ({bTable, bSlab} : Finset (DevRef τ sig)) ⊆ arrays by decide

/-- The call has one core: what it takes is that core's payload. -/
theorem taken (d : Dev nD) : (bigSep Finset.univ fun c : Fin ((K (F := F)).nCore 0) => (P m).st 0 d c) = iprop(slabPts m d ∗ ∃ f, outPts d f) :=
  bigSep_univ_of_subsingleton (0 : Fin 1)
/-- What it gives back is that core's payload too. -/
theorem given (d : Dev nD) : (bigSep Finset.univ fun c : Fin ((K (F := F)).nCore 0) => (P m).dn 0 d c) = iprop(slabPts m d ∗ outPts d (wanted m d)) :=
  bigSep_univ_of_subsingleton (0 : Fin 1)

/-- What @main leaves: the table as it was and the result at `wanted`. -/
abbrev FIN (d : Dev nD) : sProp 𝕄 := iprop((tableLoc d ↦{fullShare} m (tableLoc d)) ∗ outPts d (wanted m d))

/-- @main on a TensorCore: the reshape, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := regard) (S := arrays) regard_bufs (V := launch m d)) $$ [Hb Hheld]
  · isplitl [Hb] <;> iassumption
  iintro ⟨Hb, Hheld⟩
  ihave Hh := (Entails.of_eq (regarded (F := F) m d)) $$ Hheld
  icases Hh with ⟨Htable, Hslab, Hout⟩
  rw [wp_ret]; imodintro
  iapply ((K (F := F)).wp_run (D (F := F)) 𝒱 (EH := EH) (P := P m) κ d 0) $$ [Hst Hslab Hout Htable Hb Hts]
  isplitr; · iexact Hctx
  isplitl [Hst]; · iexact Hst
  isplitl [Hslab Hout]
  · rw [taken]
    isplitl [Hslab]; · iexact Hslab
    iexists _; iexact Hout
  iintro ⟨Hst, Hdn⟩
  ihave Hdn' := (Entails.of_eq (given m d)) $$ Hdn
  icases Hdn' with ⟨-, Hout⟩
  imodintro
  isplitl [Hst]; · iexact Hst
  isplitl [Htable Hout]
  · isplitl [Htable] <;> iassumption
  isplitl [Hb] <;> iassumption

/-- What is read at the end on device `d`. -/
def atEnd (d : Dev nD) (s' : Phys nD τ sig (Elt F)) : Prop :=
  s'.mem.mem (outLoc d) = wanted m d ∧ s'.mem.mem (tableLoc d) = m (tableLoc d)

omit [FloatOps F] in
/-- A whole array that is owned holds, in the final memory, what is owned. -/
theorem whole_read {ℓ : Loc nD τ sig} {f : Buf (Elt F) ℓ} {s' : Phys nD τ sig (Elt F)} :
    (iprop(SI s' ∗ ℓ ↦{fullShare} f) : sProp 𝕄) ⊢ ⌜s'.mem.mem ℓ = f⌝ := by
  iintro H
  ihave H' := (SI_pointsTo_agree (st := s') (ℓ := ℓ) (I := Finset.univ) (q := fullShare) (f := f)) $$ H
  icases H' with %h
  ipureintro
  exact funext fun i => h i (Finset.mem_univ i)

/-- What @main leaves fixes what is read at the end. -/
theorem hfin (d : Dev nD) (s' : Phys nD τ sig (Elt F)) : iprop(FIN m d ∗ SI s') ⊢ (⌜atEnd m d s'⌝ : sProp 𝕄) := by
  iintro ⟨⟨Htable, Hout⟩, HSI⟩
  ihave H := (persistent_entails_right (whole_read (s' := s') (ℓ := tableLoc d) (f := m (tableLoc d)))) $$ [HSI Htable]
  · isplitl [HSI] <;> iassumption
  icases H with ⟨%htable, HSI, -⟩
  ihave H := (whole_read (s' := s') (ℓ := outLoc d) (f := wanted m d)) $$ [HSI Hout]
  · isplitl [HSI] <;> iassumption
  icases H with %hout
  ipureintro
  exact ⟨hout, htable⟩

/-! ## The run -/

/-- The end that `run_main` promises: result, table, counters. -/
def Ends : PUnit × MemSt nD τ sig (Elt F) → Prop := fun r =>
  (∀ d : Dev nD, r.2.mem (outLoc d) = wanted m d ∧ r.2.mem (tableLoc d) = m (tableLoc d)) ∧ r.2.sem = fun _ => 0

/-- Every weakly fair execution of the program ends so. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (atEnd m) (hfin m) (Ends m) (fun _ h hz => ⟨h, hz⟩)

end Cert.Proof.Run

end
-- ==== Proof.Taken.lean ====
/-
  What the reference computes, at any float values: its chain of host operations (the table of row numbers, the wrapping of
  negative numbers, the range check, the gather, the fill of rows out of range, the added axis) is `everyRow` of its argument.
  Every row number of the table is in range, so nothing is wrapped and nothing is filled.
-/
module

public import proofs.«01_k».proof.Proof.Rows
public import proofs.«01_k».proof.Proof.Gen.ReferenceIdeal.Run
public import Idealize.ShloMosaic.Lib.ReduceAll
public import Idealize.ShloMosaic.Lib.Routing.Ops

@[expose] public section

noncomputable section

namespace Cert.Proof.Taken

open Cert.ReferenceIdeal Cert.ReferenceIdeal.Gen
open Idealize.ShloMosaic Idealize.ShloMosaic.TcCoe Idealize.ShloMosaic.Pipeline Idealize.ShloMosaic.ValueIdx Idealize.SL.Sem

variable {F : FTy → Type} [FloatOps F]

/-- The reference's table of row numbers, as a vector. -/
abbrev rowNumbers : IVec S128 32 := shapeCast S128 (fun i => lit0 (S128x1.rowMajor i)) shapeCasts_S128x1_S128

/-- The row numbers with the negative ones wrapped round, as a column. -/
abbrev starts : IVec S128x1 32 :=
  broadcastInDim S128x1 ![0] bcast_S128_S128x1_0
    (select (cmpi .slt rowNumbers (broadcastInDim S128 ![] bcast_S_S128 (constantI S_ 32 0#32)))
      (addi rowNumbers (broadcastInDim S128 ![] bcast_S_S128 (constantI S_ 32 16384#32))) rowNumbers)

/-- Where a start is a row of the table. -/
abbrev inRange : IVec S128x1 1 :=
  andi (cmpi .sge starts (broadcastInDim S128x1 ![] bcast_S_S128x1 (constantI S_ 32 0#32)))
    (cmpi .sle starts (broadcastInDim S128x1 ![0, 1] bcast_S1x1_S128x1_0_1 (broadcastInDim S1x1 ![1] bcast_S1_S1x1_1 (constantI S1 32 16383#32))))

/-- The reference's result, as its operations compose it. -/
abbrev result (x : FVec F S16384x128 .f32) : FVec F S128x1x128 .f32 :=
  broadcastInDim S128x1x128 ![0, 2] bcast_S128x128_S128x1x128_0_2
    (select (broadcastInDim S128x128 ![0] bcast_S128_S128x128_0 (Host.reduce IntOp.andi inRange (constantI S_ 1 1#1) reducesTo_S128x1_S128_d1 h_S_))
      (Host.gather gather_S16384x128_S128x1_S128x128_1_0_n_n_0_1_1128 x starts)
      (broadcastInDim S128x128 ![] bcast_S_S128x128 (constant S_ .f32 0x7FC00000#32)))

/-- Entry `r` of the literal table is the word of `128 * r`. -/
theorem lit0_eq : ∀ r : Fin 128, lit0 r = BitVec.ofNat 32 (128 * r.val) := by decide

/-- Entry `r` of the vector of row numbers is the word of `128 * r`. -/
theorem rowNumbers_at (r : Fin 128) : rowNumbers (ix1 r) = BitVec.ofNat 32 (128 * r.val) := by
  refine (shapeCast_apply _ _ (ix1 r) (ix2 r (0 : Fin 1)) ?_).trans ?_
  · rw [Shape.rowMajor_val_two, Shape.rowMajor_val_one]
    show r.val * 1 + 0 = r.val
    omega
  · have h : S128x1.rowMajor (ix2 r (0 : Fin 1)) = r := Fin.ext (by
      rw [Shape.rowMajor_val_two]
      show r.val * 1 + 0 = r.val
      omega)
    show lit0 (S128x1.rowMajor (ix2 r (0 : Fin 1))) = _
    rw [h, lit0_eq]

/-- No word of a row number is below zero, none is above the last row: decided for the 128 rows. -/
theorem words : ∀ r : Fin 128,
    Scalar.select (IntOp.cmpi .slt (BitVec.ofNat 32 (128 * r.val)) 0#32) (IntOp.addi (BitVec.ofNat 32 (128 * r.val)) 16384#32) (BitVec.ofNat 32 (128 * r.val))
        = BitVec.ofNat 32 (128 * r.val)
      ∧ IntOp.andi (IntOp.cmpi .sge (BitVec.ofNat 32 (128 * r.val)) 0#32) (IntOp.cmpi .sle (BitVec.ofNat 32 (128 * r.val)) 16383#32) = 1#1 := by
  decide

/-- Start `r` is the word of `128 * r`. -/
theorem starts_at (r : Fin 128) : starts (ix2 r (0 : Fin 1)) = BitVec.ofNat 32 (128 * r.val) := by
  refine (broadcastInDim_apply _ _ _ _ (ix1 r) ?_).trans ?_
  · intro a
    obtain rfl : a = 0 := Subsingleton.elim _ _
    rfl
  · show Scalar.select (IntOp.cmpi .slt (rowNumbers (ix1 r)) 0#32) (IntOp.addi (rowNumbers (ix1 r)) 16384#32) (rowNumbers (ix1 r)) = _
    rw [rowNumbers_at]
    exact (words r).1

/-- Every start is a row of the table. -/
theorem inRange_at (i : S128x1.Idx) : inRange i = 1#1 := by
  have key : ∀ r : Fin 128, inRange (ix2 r (0 : Fin 1)) = 1#1 := fun r => by
    show IntOp.andi (IntOp.cmpi .sge (starts (ix2 r (0 : Fin 1))) 0#32) (IntOp.cmpi .sle (starts (ix2 r (0 : Fin 1))) 16383#32) = 1#1
    rw [starts_at]
    exact (words r).2
  have hi : i = ix2 (i 0) (0 : Fin 1) := (eq_ix2 i).trans (congrArg (ix2 (n0 := 128) (i 0)) (Subsingleton.elim (α := Fin 1) _ _))
  exact hi ▸ key (i 0)

/-- The gather reads, for row `r` of its result, row `128 * r` of the table. -/
theorem gather_at (x : FVec F S16384x128 .f32) (r c : Fin 128) :
    Host.gather gather_S16384x128_S128x1_S128x128_1_0_n_n_0_1_1128 x starts (ix2 r c) = x (ix2 (pick r) c) :=
  Routing.gather_row gather_S16384x128_S128x1_S128x128_1_0_n_n_0_1_1128 rfl rfl rfl rfl rfl x starts r c (pick r) (starts_at r) (by decide)

/-- The reference's result is `everyRow` of its table. -/
theorem result_eq (x : FVec F S16384x128 .f32) : result x = everyRow x := by
  funext i
  refine (broadcastInDim_apply _ _ _ i (ix2 (i 0) (i 2)) ?_).trans ?_
  · intro a
    match a with
    | ⟨0, _⟩ => rfl
    | ⟨1, _⟩ => rfl
  · show Scalar.select (broadcastInDim S128x128 ![0] bcast_S128_S128x128_0
        (Host.reduce IntOp.andi inRange (constantI S_ 1 1#1) reducesTo_S128x1_S128_d1 h_S_) (ix2 (i 0) (i 2)))
        (Host.gather gather_S16384x128_S128x1_S128x128_1_0_n_n_0_1_1128 x starts (ix2 (i 0) (i 2))) _ = _
    have hb : broadcastInDim S128x128 ![0] bcast_S128_S128x128_0
        (Host.reduce IntOp.andi inRange (constantI S_ 1 1#1) reducesTo_S128x1_S128_d1 h_S_) (ix2 (i 0) (i 2)) = 1#1 :=
      Host.reduce_andi_one _ _ _ _ _ rfl inRange_at
    rw [hb, select_one]
    exact gather_at x (i 0) (i 2)

/-- The reference's run: its result is `everyRow` of its argument, which ends as it began. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = everyRow (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq _), (h c).2⟩) (Cert.ReferenceIdeal.Value.run m ρ)

end Cert.Proof.Taken

end
-- ==== Proof.lean ====
/-
  The claims about the kernel and its reference. Both programs are run once, at any float values: the kernel's run is
  `Run.run_main` (Proof/Run.lean), the reference's is `Taken.run` (Proof/Taken.lean). Each ends with its result at
  `everyRow` of the table (Proof/Rows.lean): row `i` of the result is row `128 * i` of the table. Every claim below reads one
  of these runs, or both, at the float values that the claim names.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Run
public import proofs.«01_k».proof.Proof.Taken
public import Idealize.ShloMosaic.Adequacy
public import Idealize.ShloMosaic.Init

@[expose] public section

noncomputable section

namespace Cert.Proof

open Idealize.ShloMosaic Idealize.SL.Sem

/-! ## The runs end, their argument unchanged, every counter zero -/

/-- The kernel at its machine's floats: the one run, read at the table and at the counters. -/
theorem frame_kernel : Cert.quiescent_Kernel := fun m ρ _ =>
  (θ_run Cert.KernelIdeal.defs _ _).mono (fun _ h => ⟨fun c => (h.1 c).2, h.2⟩) (Run.run_main (F := Bits) m ρ)

/-- The kernel at the extended reals: the same run. -/
theorem frame_kernelIdeal : Cert.quiescent_KernelIdeal := fun m ρ _ =>
  (θ_run Cert.KernelIdeal.defs _ _).mono (fun _ h => ⟨fun c => (h.1 c).2, h.2⟩) (Run.run_main (F := Ideal) m ρ)

/-- The reference at the extended reals; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Taken.run (F := Ideal) m ρ)

/-- The reference at the machine's floats: the same run. -/
theorem frame_reference : Cert.quiescent_Reference := fun m ρ _ =>
  (θ_run Cert.ReferenceIdeal.defs _ _).mono (fun r h => ⟨fun c => (h c).2, sem_eq_zero_of_no_sems (by decide) r.2⟩)
    (Taken.run (F := Bits) m ρ)

/-! ## The results are equal -/

/-- At the extended reals the kernel and the reference end with the same rows of the same table. -/
theorem algebraic : Cert.algebraic_KernelIdeal_ReferenceIdeal := fun m ρ m' ρ' _ hagree =>
  ⟨fun c => Run.wanted m c,
    (θ_run Cert.KernelIdeal.defs _ _).mono (fun _ h c => h.1 c) (Run.run_main (F := Ideal) m ρ),
    (θ_run Cert.ReferenceIdeal.defs _ _).mono (fun _ h c => ⟨(h c).1.trans (congrArg everyRow (hagree c)), (h c).2⟩)
      (Taken.run (F := Ideal) m' ρ')⟩

/-- At the machine's floats too, bit for bit: rows are copied, nothing is computed. -/
theorem bitexact : Cert.bitexact_Kernel_Reference := fun m ρ m' ρ' _ hagree =>
  ⟨fun c => Run.wanted m c,
    (θ_run Cert.KernelIdeal.defs _ _).mono (fun _ h c => h.1 c) (Run.run_main (F := Bits) m ρ),
    (θ_run Cert.ReferenceIdeal.defs _ _).mono (fun _ h c => ⟨(h c).1.trans (congrArg everyRow (hagree c)), (h c).2⟩)
      (Taken.run (F := Bits) m' ρ')⟩

/-- Everything claimed. Nothing was rewritten, so the idealized program is the kernel's own. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
